-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x128 : Shape := ⟨2, ![10000, 128]⟩
abbrev S10000x32x128 : Shape := ⟨3, ![10000, 32, 128]⟩
abbrev S128x128 : Shape := ⟨2, ![128, 128]⟩
abbrev S128x1 : Shape := ⟨2, ![128, 1]⟩
abbrev S_ : Shape := ⟨0, ![]⟩

class Facts : Prop where
  bcast_S_S10000x128 : S_.BroadcastsInDim S10000x128 (![] : Fin 0 → Fin S10000x128.rank)
  bcast_S_S10000x32x128 : S_.BroadcastsInDim S10000x32x128 (![] : Fin 0 → Fin S10000x32x128.rank)
  bcast_S_S128x128 : S_.BroadcastsInDim S128x128 (![] : Fin 0 → Fin S128x128.rank)
  bcast_S_S128x1 : S_.BroadcastsInDim S128x1 (![] : Fin 0 → Fin S128x1.rank)

variable [Facts]

def fn {F : FTy → Type} [FloatOps F] (main_arg0 : FVec F S10000x128 .f32) (main_arg1 : FVec F S10000x32x128 .f32) (main_arg2 : FVec F S128x128 .f32) (main_arg3 : FVec F S128x128 .f32) (main_arg4 : FVec F S128x1 .f32) : IVec S10000x128 1 × IVec S10000x32x128 1 × IVec S128x128 1 × IVec S128x128 1 × IVec S128x1 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_v3 : FVec F S10000x32x128 .f32 := Host.absf main_arg1
  let main_cst_0 : FVec F S_ .f32 := constant S_ .f32 0x7F800000#32
  let main_v4 : FVec F S10000x32x128 .f32 := broadcastInDim S10000x32x128 ![] bcast_S_S10000x32x128 main_cst_0
  let main_v5 : IVec S10000x32x128 1 := cmpf .olt main_v3 main_v4
  let main_v6 : FVec F S128x128 .f32 := Host.absf main_arg2
  let main_cst_1 : FVec F S_ .f32 := constant S_ .f32 0x7F800000#32
  let main_v7 : FVec F S128x128 .f32 := broadcastInDim S128x128 ![] bcast_S_S128x128 main_cst_1
  let main_v8 : IVec S128x128 1 := cmpf .olt main_v6 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_v12 : FVec F S128x1 .f32 := Host.absf main_arg4
  let main_cst_3 : FVec F S_ .f32 := constant S_ .f32 0x7F800000#32
  let main_v13 : FVec F S128x1 .f32 := broadcastInDim S128x1 ![] bcast_S_S128x1 main_cst_3
  let main_v14 : IVec S128x1 1 := cmpf .olt main_v12 main_v13
  (main_v2, main_v5, main_v8, main_v11, main_v14)
-- ==== Kernel.lean ====
abbrev S10000x128 : Shape := ⟨2, ![10000, 128]⟩
abbrev S10000x32x128 : Shape := ⟨3, ![10000, 32, 128]⟩
abbrev S128x128 : Shape := ⟨2, ![128, 128]⟩
abbrev S128x1 : Shape := ⟨2, ![128, 1]⟩
abbrev S1x128 : Shape := ⟨2, ![1, 128]⟩
abbrev S400x128 : Shape := ⟨2, ![400, 128]⟩
abbrev S400x32x128 : Shape := ⟨3, ![400, 32, 128]⟩
abbrev S1x1x128 : Shape := ⟨3, ![1, 1, 128]⟩
abbrev S400x16x128 : Shape := ⟨3, ![400, 16, 128]⟩
abbrev S400x16 : Shape := ⟨2, ![400, 16]⟩
abbrev S400x32 : Shape := ⟨2, ![400, 32]⟩
abbrev S400x1 : Shape := ⟨2, ![400, 1]⟩
abbrev S400 : Shape := ⟨1, ![400]⟩
abbrev S1x32 : Shape := ⟨2, ![1, 32]⟩
abbrev S400x16x1 : Shape := ⟨3, ![400, 16, 1]⟩

abbrev nBuf : Space → Nat
  | .hbm => 7
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x32x128, .f32⟩
  | .hbm, ⟨2, _⟩ => ⟨S128x128, .f32⟩
  | .hbm, ⟨3, _⟩ => ⟨S128x128, .f32⟩
  | .hbm, ⟨4, _⟩ => ⟨S128x1, .f32⟩
  | .hbm, ⟨5, _⟩ => ⟨S1x128, .f32⟩
  | .hbm, ⟨6, _⟩ => ⟨S10000x128, .f32⟩
  | .local _ .vmem, ⟨0, _⟩ => ⟨S400x128, .f32⟩
  | .local _ .vmem, ⟨1, _⟩ => ⟨S400x128, .f32⟩
  | .local _ .vmem, ⟨2, _⟩ => ⟨S400x32x128, .f32⟩
  | .local _ .vmem, ⟨3, _⟩ => ⟨S400x32x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S10000x128 : Shape := ⟨2, ![10000, 128]⟩
abbrev S10000x32x128 : Shape := ⟨3, ![10000, 32, 128]⟩
abbrev S128x128 : Shape := ⟨2, ![128, 128]⟩
abbrev S128x1 : Shape := ⟨2, ![128, 1]⟩
abbrev S320000x128 : Shape := ⟨2, ![320000, 128]⟩
abbrev S10000x1x128 : Shape := ⟨3, ![10000, 1, 128]⟩
abbrev S10000x33x128 : Shape := ⟨3, ![10000, 33, 128]⟩
abbrev S330000x128 : Shape := ⟨2, ![330000, 128]⟩
abbrev S330000x1 : Shape := ⟨2, ![330000, 1]⟩
abbrev S_ : Shape := ⟨0, ![]⟩
abbrev S10000x33x1 : Shape := ⟨3, ![10000, 33, 1]⟩
abbrev S10000x1 : Shape := ⟨2, ![10000, 1]⟩
abbrev S10000x1x1 : Shape := ⟨3, ![10000, 1, 1]⟩
abbrev S10000x32x1 : Shape := ⟨3, ![10000, 32, 1]⟩
abbrev S10000x32 : Shape := ⟨2, ![10000, 32]⟩
abbrev S10000x16 : Shape := ⟨2, ![10000, 16]⟩
abbrev S10000x16x1 : Shape := ⟨3, ![10000, 16, 1]⟩
abbrev S1 : Shape := ⟨1, ![1]⟩
abbrev S1x1x1 : Shape := ⟨3, ![1, 1, 1]⟩
abbrev S10000x16x128 : Shape := ⟨3, ![10000, 16, 128]⟩

abbrev nBuf : Space → Nat
  | .hbm => 90
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x32x128, .f32⟩
  | .hbm, ⟨2, _⟩ => ⟨S128x128, .f32⟩
  | .hbm, ⟨3, _⟩ => ⟨S128x128, .f32⟩
  | .hbm, ⟨4, _⟩ => ⟨S128x1, .f32⟩
  | .hbm, ⟨5, _⟩ => ⟨S10000x128, .f32⟩
  | .hbm, ⟨6, _⟩ => ⟨S320000x128, .f32⟩
  | .hbm, ⟨7, _⟩ => ⟨S320000x128, .f32⟩
  | .hbm, ⟨8, _⟩ => ⟨S10000x32x128, .f32⟩
  | .hbm, ⟨9, _⟩ => ⟨S10000x1x128, .f32⟩
  | .hbm, ⟨10, _⟩ => ⟨S10000x33x128, .f32⟩
  | .hbm, ⟨11, _⟩ => ⟨S330000x128, .f32⟩
  | .hbm, ⟨12, _⟩ => ⟨S330000x1, .f32⟩
  | .hbm, ⟨13, _⟩ => ⟨S_, .f32⟩
  | .hbm, ⟨14, _⟩ => ⟨S330000x1, .f32⟩
  | .hbm, ⟨15, _⟩ => ⟨S330000x1, .f32⟩
  | .hbm, ⟨16, _⟩ => ⟨S10000x33x1, .f32⟩
  | .hbm, ⟨17, _⟩ => ⟨S_, .f32⟩
  | .hbm, ⟨18, _⟩ => ⟨S10000x1, .f32⟩
  | .hbm, ⟨19, _⟩ => ⟨S_, .f32⟩
  | .hbm, ⟨20, _⟩ => ⟨S10000x1, .f32⟩
  | .hbm, ⟨21, _⟩ => ⟨S10000x1, .f32⟩
  | .hbm, ⟨22, _⟩ => ⟨S10000x1x1, .f32⟩
  | .hbm, ⟨23, _⟩ => ⟨S10000x33x1, .f32⟩
  | .hbm, ⟨24, _⟩ => ⟨S10000x33x1, .f32⟩
  | .hbm, ⟨25, _⟩ => ⟨S10000x33x1, .f32⟩
  | .hbm, ⟨26, _⟩ => ⟨S_, .f32⟩
  | .hbm, ⟨27, _⟩ => ⟨S10000x1, .f32⟩
  | .hbm, ⟨28, _⟩ => ⟨S10000x1x1, .f32⟩
  | .hbm, ⟨29, _⟩ => ⟨S10000x33x1, .f32⟩
  | .hbm, ⟨30, _⟩ => ⟨S10000x33x1, .f32⟩
  | .hbm, ⟨31, _⟩ => ⟨S10000x32x1, .f32⟩
  | .hbm, ⟨32, _⟩ => ⟨S10000x32, .f32⟩
  | .hbm, ⟨33, _⟩ => ⟨S10000x16, .f32⟩
  | .hbm, ⟨34, _⟩ => ⟨S10000x16, .i32⟩
  | .hbm, ⟨35, _⟩ => ⟨S10000x16x1, .i32⟩
  | .hbm, ⟨36, _⟩ => ⟨S_, .i32⟩
  | .hbm, ⟨37, _⟩ => ⟨S10000x16x1, .i32⟩
  | .hbm, ⟨38, _⟩ => ⟨S10000x16x1, .i1⟩
  | .hbm, ⟨39, _⟩ => ⟨S_, .i32⟩
  | .hbm, ⟨40, _⟩ => ⟨S10000x16x1, .i32⟩
  | .hbm, ⟨41, _⟩ => ⟨S10000x16x1, .i32⟩
  | .hbm, ⟨42, _⟩ => ⟨S10000x16x1, .i32⟩
  | .hbm, ⟨43, _⟩ => ⟨S1, .i32⟩
  | .hbm, ⟨44, _⟩ => ⟨S_, .i32⟩
  | .hbm, ⟨45, _⟩ => ⟨S10000x16x1, .i32⟩
  | .hbm, ⟨46, _⟩ => ⟨S10000x16x1, .i1⟩
  | .hbm, ⟨47, _⟩ => ⟨S1x1x1, .i32⟩
  | .hbm, ⟨48, _⟩ => ⟨S10000x16x1, .i32⟩
  | .hbm, ⟨49, _⟩ => ⟨S10000x16x1, .i1⟩
  | .hbm, ⟨50, _⟩ => ⟨S10000x16x1, .i1⟩
  | .hbm, ⟨51, _⟩ => ⟨S_, .i1⟩
  | .hbm, ⟨52, _⟩ => ⟨S10000x16, .i1⟩
  | .hbm, ⟨53, _⟩ => ⟨S10000x16x128, .f32⟩
  | .hbm, ⟨54, _⟩ => ⟨S10000x16x128, .i1⟩
  | .hbm, ⟨55, _⟩ => ⟨S_, .f32⟩
  | .hbm, ⟨56, _⟩ => ⟨S10000x16x128, .f32⟩
  | .hbm, ⟨57, _⟩ => ⟨S10000x16x128, .f32⟩
  | .hbm, ⟨58, _⟩ => ⟨S10000x32x1, .f32⟩
  | .hbm, ⟨59, _⟩ => ⟨S10000x16x1, .i32⟩
  | .hbm, ⟨60, _⟩ => ⟨S_, .i32⟩
  | .hbm, ⟨61, _⟩ => ⟨S10000x16x1, .i32⟩
  | .hbm, ⟨62, _⟩ => ⟨S10000x16x1, .i1⟩
  | .hbm, ⟨63, _⟩ => ⟨S_, .i32⟩
  | .hbm, ⟨64, _⟩ => ⟨S10000x16x1, .i32⟩
  | .hbm, ⟨65, _⟩ => ⟨S10000x16x1, .i32⟩
  | .hbm, ⟨66, _⟩ => ⟨S10000x16x1, .i32⟩
  | .hbm, ⟨67, _⟩ => ⟨S1, .i32⟩
  | .hbm, ⟨68, _⟩ => ⟨S_, .i32⟩
  | .hbm, ⟨69, _⟩ => ⟨S10000x16x1, .i32⟩
  | .hbm, ⟨70, _⟩ => ⟨S10000x16x1, .i1⟩
  | .hbm, ⟨71, _⟩ => ⟨S1x1x1, .i32⟩
  | .hbm, ⟨72, _⟩ => ⟨S10000x16x1, .i32⟩
  | .hbm, ⟨73, _⟩ => ⟨S10000x16x1, .i1⟩
  | .hbm, ⟨74, _⟩ => ⟨S10000x16x1, .i1⟩
  | .hbm, ⟨75, _⟩ => ⟨S_, .i1⟩
  | .hbm, ⟨76, _⟩ => ⟨S10000x16, .i1⟩
  | .hbm, ⟨77, _⟩ => ⟨S10000x16x1, .f32⟩
  | .hbm, ⟨78, _⟩ => ⟨S10000x16x1, .i1⟩
  | .hbm, ⟨79, _⟩ => ⟨S_, .f32⟩
  | .hbm, ⟨80, _⟩ => ⟨S10000x16x1, .f32⟩
  | .hbm, ⟨81, _⟩ => ⟨S10000x16x1, .f32⟩
  | .hbm, ⟨82, _⟩ => ⟨S10000x16x128, .f32⟩
  | .hbm, ⟨83, _⟩ => ⟨S10000x16x128, .f32⟩
  | .hbm, ⟨84, _⟩ => ⟨S_, .f32⟩
  | .hbm, ⟨85, _⟩ => ⟨S10000x128, .f32⟩
  | .hbm, ⟨86, _⟩ => ⟨S10000x128, .f32⟩
  | .hbm, ⟨87, _⟩ => ⟨S_, .f32⟩
  | .hbm, ⟨88, _⟩ => ⟨S10000x128, .f32⟩
  | .hbm, ⟨89, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_values : Ref sig .tc := ⟨.hbm, 33, rfl⟩
abbrev main_indices : Ref sig .tc := ⟨.hbm, 34, rfl⟩
abbrev main_v23 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_c_2 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_c_3 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_cst : Ref sig .tc := ⟨.hbm, 55, rfl⟩
abbrev main_call1_v14 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_c_2 : Ref sig .tc := ⟨.hbm, 68, rfl⟩
abbrev main_call2_v5 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_c_3 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_cst : Ref sig .tc := ⟨.hbm, 79, rfl⟩
abbrev main_call2_v14 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_cst_2 : Ref sig .tc := ⟨.hbm, 84, rfl⟩
abbrev main_v30 : Ref sig .tc := ⟨.hbm, 85, rfl⟩
abbrev main_v31 : Ref sig .tc := ⟨.hbm, 86, rfl⟩
abbrev main_call3_cst : Ref sig .tc := ⟨.hbm, 87, rfl⟩
abbrev main_call3_v0 : Ref sig .tc := ⟨.hbm, 88, rfl⟩
abbrev main_v32 : Ref sig .tc := ⟨.hbm, 89, rfl⟩

abbrev nD : Nat := 1
abbrev τ : Topo := Topo.v7x

variable {F : FTy → Type} [FloatOps F]
-- ==== Proof.Row.lean ====
/-
  One node's row as plain functions on the extended reals: the scores of a neighbour, the position of a
  neighbour in the descending order of the logits, and the row the kernel and the reference each compute
  from it. No program is mentioned here.
-/
module

public import Idealize.ShloMosaic.PureOps.Ideal
public import Idealize.ShloMosaic.Lib.SortFacts

@[expose] public section

noncomputable section

namespace Cert.Row

open Idealize.ShloMosaic

/-- A vector of 128 features times a 128 by 128 matrix, at one column. -/
def project (x : Fin 128 → EReal) (w : Fin 128 → Fin 128 → EReal) (d : Fin 128) : EReal :=
  ∑ i, x i * w i d

/-- The logit of a projected feature vector against the attention vector, cut off below at zero. -/
def logit (y a : Fin 128 → EReal) : EReal := max (∑ j, y j * a j) 0

/-- The logit of a feature vector that is not projected first: the attention vector goes through the
    weights instead. -/
def foldedLogit (x : Fin 128 → EReal) (w : Fin 128 → Fin 128 → EReal) (a : Fin 128 → EReal) : EReal :=
  max (∑ i, x i * ∑ j, a j * w i j) 0

/-- The greatest of the neighbours' logits `l` and the node's own logit `ls`. -/
def top (l : Fin 32 → EReal) (ls : EReal) : EReal := max (Finset.univ.fold max ⊥ l) ls

/-- The softmax score of neighbour `k` among the 32 neighbours and the node itself. -/
def score (l : Fin 32 → EReal) (ls : EReal) (k : Fin 32) : EReal :=
  Ideal.div (Ideal.exp (l k - top l ls)) (Ideal.exp (ls - top l ls) + ∑ q, Ideal.exp (l q - top l ls))

/-- How many neighbours are ahead of neighbour `k`, counted one by one: each with a greater logit, and each of
    an equal logit and a smaller number. -/
def countAhead (l : Fin 32 → EReal) (k : Fin 32) : EReal :=
  (List.finRange 32).foldl
    (fun r j => r + (if l k < l j then 1 else 0) + (if l j = l k ∧ j.val < k.val then 1 else 0)) 0

/-- 1 for a neighbour with fewer than 16 others ahead of it, 0 for the rest. -/
def kept (l : Fin 32 → EReal) (k : Fin 32) : EReal := if countAhead l k < 16 then 1 else 0

/-- Neighbour number `k` of the first sixteen. -/
abbrev lower (k : Fin 16) : Fin 32 := ⟨k.val, by omega⟩

/-- Neighbour number `16 + k`. -/
abbrev upper (k : Fin 16) : Fin 32 := ⟨16 + k.val, by omega⟩

/-- The row as the kernel computes it: the kept neighbours are summed with their scores as weights, in two
    halves of sixteen, and the sum is projected. -/
def kernelRow (s : Fin 128 → EReal) (n : Fin 32 → Fin 128 → EReal) (ws wn : Fin 128 → Fin 128 → EReal)
    (a : Fin 128 → EReal) (d : Fin 128) : EReal :=
  let l := fun k => foldedLogit (n k) wn a
  let w := fun k => score l (logit (project s ws) a) k * kept l k
  max (project s ws d
    + project (fun i => ∑ k, n (lower k) i * w (lower k) + ∑ k, n (upper k) i * w (upper k)) wn d) 0

/-- The position of the neighbour that a stable descending sort of the scores `x` puts at place `t`, for the first
    sixteen places. -/
def pick (x : Fin 32 → EReal) (t : Fin 16) : Fin 32 :=
  sortedFrom (fun p q => decide (x q < x p)) ⟨t.val, by omega⟩

/-- The row as the reference computes it: every neighbour is projected, and the sixteen neighbours of greatest
    score are summed with their scores as weights. -/
def referenceRow (s : Fin 128 → EReal) (n : Fin 32 → Fin 128 → EReal) (ws wn : Fin 128 → Fin 128 → EReal)
    (a : Fin 128 → EReal) (d : Fin 128) : EReal :=
  let x := score (fun k => logit (project (n k) wn) a) (logit (project s ws) a)
  max (project s ws d + ∑ t, project (n (pick x t)) wn d * x (pick x t)) 0

end Cert.Row

end
-- ==== Proof.Words.lean ====
/-
  The words and float constants the programs use, read as numbers.
-/
module

public import Idealize.ShloMosaic.Lib.Pointwise

@[expose] public section

noncomputable section

namespace Cert.Words

open Idealize.ShloMosaic

/-- The float pattern of minus infinity. -/
theorem bits_bot : Ideal.ofBits .f32 4286578688#32 = ⊥ := by
  simp [Ideal.ofBits, Ideal.ieee, -EReal.coe_mul]

/-- The float pattern of plus infinity. -/
theorem bits_top : Ideal.ofBits .f32 2139095040#32 = ⊤ := by
  simp [Ideal.ofBits, Ideal.ieee, -EReal.coe_mul]

/-- The float pattern of sixteen. -/
theorem bits_sixteen : Ideal.ofBits .f32 1098907648#32 = 16 := by
  simp [Ideal.ofBits, Ideal.ieee, -EReal.coe_mul]
  norm_num
  rfl

/-- A truth value widened to a word and read as a float is 1 or 0. -/
theorem float_of_bool (p : Prop) [Decidable p] :
    FloatOps.sitofp (F := Ideal) .f32 (BitVec.setWidth 32 (BitVec.ofBool (decide p))) = if p then (1 : EReal) else 0 := by
  by_cases h : p
  · simp only [h, if_true, decide_true]
    show (((1 : Int) : ℝ) : EReal) = 1
    norm_num
  · simp only [h, if_false, decide_false]
    show (((0 : Int) : ℝ) : EReal) = 0
    norm_num

/-- A choice between 1 and 0 on two conditions, the second a comparison of two small numbers held as words. -/
theorem select_of_and (p : Prop) [Decidable p] (k j : Nat) (hk : k < 2 ^ 31) (hj : j < 2 ^ 31) :
    Scalar.select (IntOp.andi (BitVec.ofBool (decide p)) (IntOp.cmpi .sgt (BitVec.ofNat 32 k) (BitVec.ofNat 32 j)))
      (1 : EReal) 0 = if p ∧ j < k then 1 else 0 := by
  have hw : IntOp.cmpi .sgt (BitVec.ofNat 32 k) (BitVec.ofNat 32 j) = BitVec.ofBool (decide (j < k)) := by
    show BitVec.ofBool (BitVec.slt (BitVec.ofNat 32 j) (BitVec.ofNat 32 k)) = _
    congr 1
    rw [BitVec.slt_eq_decide, BitVec.toInt_ofNat', BitVec.toInt_ofNat']
    rw [Int.bmod_def, Int.bmod_def]
    congr 1
    simp only [eq_iff_iff]
    split <;> split <;> omega
  rw [hw]
  by_cases h : p <;> by_cases g : j < k <;> simp [h, g, Scalar.select, IntOp.andi]

end Cert.Words

end
-- ==== Proof.KernelRow.lean ====
/-
  What the kernel's body computes from the blocks of one grid point, read one row at a time: row `b` of the
  block it writes is `Cert.Row.kernelRow` of row `b` of its blocks.
-/
module

public import proofs.«01_k».proof.Proof.Gen.KernelIdeal.Value
public import proofs.«01_k».proof.Proof.Row
public import proofs.«01_k».proof.Proof.Words

@[expose] public section

set_option maxRecDepth 16384

noncomputable section

namespace Cert.KernelIdeal.Block

open Idealize.ShloMosaic Cert.KernelIdeal Cert.KernelIdeal.Gen Cert.Row Cert.Words

theorem origin2 : (![0, 0] : Fin 2 → Nat) = fun _ => 0 := by
  funext a; match a with | ⟨0, _⟩ => rfl | ⟨1, _⟩ => rfl

variable (x0 : Vec Ideal S400x128 .f32) (x1 : Vec Ideal S400x32x128 .f32) (x2 x3 : Vec Ideal S128x128 .f32)
  (x4 : Vec Ideal S1x128 .f32)

/-- The projected features of the nodes themselves. -/
theorem own_apply (b : Fin 400) (d : Fin 128) :
    k0_pay2 (F := Ideal) x0 x2 (ix2 b d) = project (fun i => x0 (ix2 b i)) (fun i j => x2 (ix2 i j)) d := by
  pointwise [k0_pay2]
  rfl

/-- The neighbours' logits. -/
theorem logits_apply (b : Fin 400) (k : Fin 32) :
    k0_pay3 (F := Ideal) x3 x4 (View.ld x1 r0_3) (View.ld x1 r0_4) (ix2 b k)
      = foldedLogit (fun i => x1 (ix3 b k i)) (fun i j => x3 (ix2 i j)) (fun j => x4 (ix2 0 j)) := by
  pointwise [k0_pay3, k0_pay1]
  unfold foldedLogit
  split <;> rename_i h
  · simp
  · have e : (⟨16 + (k.val - 16), by omega⟩ : Fin 32) = k := Fin.ext (by simp; omega)
    simp [e]

/-- The neighbours' softmax scores, from the logits `L` and the nodes' own projected features. -/
theorem scores_apply (b : Fin 400) (k : Fin 32) (n1 n2 : Vec Ideal S400x16x128 .f32) :
    k0_pay4 (F := Ideal) x0 x2 x3 x4 n1 n2 (ix2 b k)
      = score (fun q => k0_pay3 (F := Ideal) x3 x4 n1 n2 (ix2 b q))
          (logit (fun j => k0_pay2 (F := Ideal) x0 x2 (ix2 b j)) (fun j => x4 (ix2 0 j))) k := by
  pointwise [k0_pay4, k0_pay1]
  simp only [bits_bot]
  rfl

/-- The numbers of the 32 neighbours, written out. -/
theorem numbers : List.finRange 32 = [0, 1, 2, 3, 4, 5, 6, 7, 8, 9, 10, 11, 12, 13, 14, 15, 16, 17, 18, 19, 20, 21, 22,
    23, 24, 25, 26, 27, 28, 29, 30, 31] := by decide

/-- Row `b` of the block the body writes, at column `d`. -/
theorem out_apply (b : Fin 400) (d : Fin 128) :
    out0_5 (F := Ideal) x0 x1 x2 x3 x4 (ix2 b d)
      = kernelRow (fun i => x0 (ix2 b i)) (fun k i => x1 (ix3 b k i)) (fun i j => x2 (ix2 i j))
          (fun i j => x3 (ix2 i j)) (fun j => x4 (ix2 0 j)) d := by
  have hL := logits_apply x1 x3 x4 b
  have hH := own_apply x0 x2 b
  have hS := fun k => scores_apply x0 x2 x3 x4 b k (View.ld x1 r0_3) (View.ld x1 r0_4)
  have ho : (fun j => k0_pay2 (F := Ideal) x0 x2 (ix2 b j))
      = project (fun i => x0 (ix2 b i)) (fun i j => x2 (ix2 i j)) := funext hH
  rw [ho] at hS
  unfold_out out0_5
  rw [View.canon_unit_zero origin2, View.ld_unit_zero (X := x3) origin2, View.ld_unit_zero (X := x2) origin2,
    View.ld_unit_zero (X := x0) origin2, View.ld_unit_zero (X := x4) origin2]
  unfold kernelRow kept countAhead
  generalize k0_pay4 (F := Ideal) _ _ _ _ _ _ = S at hS ⊢
  generalize k0_pay3 (F := Ideal) _ _ _ _ = L at hL hS ⊢
  generalize k0_pay2 (F := Ideal) _ _ = H at hH ⊢
  simp only [← hL]
  generalize logit _ _ = o at hS ⊢
  unfold_payloads
  pointwise
  simp (disch := omega) only [float_of_bool, select_of_and, bits_sixteen]
  simp only [project, hS, hH, numbers, List.foldl_cons, List.foldl_nil, zero_add]
  refine congrArg (max · 0) (congrArg (_ + ·) (Finset.sum_congr rfl fun i _ => congrArg (· * _) ?_))
  refine congrArg₂ (· + ·) (Finset.sum_congr rfl fun k _ => congrArg (_ * ·) ?_)
    (Finset.sum_congr rfl fun k _ => congrArg (_ * ·) ?_)
  · congr 1
  · congr 1

end Cert.KernelIdeal.Block

end
-- ==== Proof.KernelArray.lean ====
/-
  What the kernel's result array holds: row `r` of it is `Cert.Row.kernelRow` of row `r` of the argument arrays.
-/
module

public import proofs.«01_k».proof.Proof.KernelRow
public import Idealize.ShloMosaic.Lib.Pipeline.Value

@[expose] public section

set_option maxRecDepth 16384

noncomputable section

namespace Cert.KernelIdeal.Result

open Idealize.ShloMosaic Idealize.ShloMosaic.TcCoe Idealize.SL.Sem
open Idealize.ShloMosaic.Pipeline (Dat)
open Cert.KernelIdeal Cert.KernelIdeal.Gen Cert.Row

variable (m : (ℓ : Loc nD τ sig) → Buf (Elt Ideal) ℓ) (ρ : Dev nD → PrngReg)

/-- The argument arrays of device `c`. -/
abbrev own (c : Dev nD) : S10000x128.Idx → EReal := m ((c : Thread nD τ).loc main_arg0)
abbrev neighbours (c : Dev nD) : S10000x32x128.Idx → EReal := m ((c : Thread nD τ).loc main_arg1)
abbrev ownWeights (c : Dev nD) : S128x128.Idx → EReal := m ((c : Thread nD τ).loc main_arg2)
abbrev neighbourWeights (c : Dev nD) : S128x128.Idx → EReal := m ((c : Thread nD τ).loc main_arg3)
abbrev attention (c : Dev nD) : S128x1.Idx → EReal := m ((c : Thread nD τ).loc main_arg4)

/-- Where the six windows stand at grid point `t`. -/
theorem places : ∀ t : Fin cfg0.N,
    (win0_0.index t 0 = t.val ∧ win0_0.index t 1 = 0)
    ∧ (win0_1.index t 0 = t.val ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = t.val ∧ win0_5.index t 1 = 0) :=
  (by decide +kernel : ∀ t : Fin grid0.N,
    (win0_0.index t 0 = t.val ∧ win0_0.index t 1 = 0)
    ∧ (win0_1.index t 0 = t.val ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = t.val ∧ win0_5.index t 1 = 0))

/-- There are 25 grid points. -/
theorem point_lt (t : Fin cfg0.N) : t.val < 25 := lt_of_lt_of_eq t.isLt N_0

/-- Row `b` of the block at grid point `t`, as a row of the array. -/
abbrev row (t : Fin cfg0.N) (b : Fin 400) : Fin 10000 := ⟨t.val * 400 + b.val, by have := point_lt t; omega⟩

/-- The first block holds the nodes' own rows. -/
theorem own_block (c : Dev nD) (t : Fin cfg0.N) (b : Fin 400) (i : Fin 128) :
    (iblk m c 0 t : Vec Ideal S400x128 .f32) (ix2 b i) = own m c (ix2 (row t b) i) := by
  unfold iblk
  rw [View.read_apply]
  show V m c main_arg0 _ = _
  rw [V_main_arg0]
  refine congrArg (own m c) (funext fun a => Fin.ext ?_)
  match a with
  | ⟨0, _⟩ => show win0_0.index t 0 * 400 + 1 * b.val = t.val * 400 + b.val; rw [(places t).1.1]; omega
  | ⟨1, _⟩ => show win0_0.index t 1 * 128 + 1 * i.val = i.val; rw [(places t).1.2]; omega

/-- The second block holds the neighbours of its rows. -/
theorem neighbour_block (c : Dev nD) (t : Fin cfg0.N) (b : Fin 400) (k : Fin 32) (i : Fin 128) :
    (iblk m c 1 t : Vec Ideal S400x32x128 .f32) (ix3 b k i) = neighbours m c (ix3 (row t b) k i) := by
  unfold iblk
  rw [View.read_apply]
  show V m c main_arg1 _ = _
  rw [V_main_arg1]
  refine congrArg (neighbours m c) (funext fun a => Fin.ext ?_)
  match a with
  | ⟨0, _⟩ => show win0_1.index t 0 * 400 + 1 * b.val = t.val * 400 + b.val; rw [(places t).2.1.1]; omega
  | ⟨1, _⟩ => show win0_1.index t 1 * 32 + 1 * k.val = k.val; rw [(places t).2.1.2.1]; omega
  | ⟨2, _⟩ => show win0_1.index t 2 * 128 + 1 * i.val = i.val; rw [(places t).2.1.2.2]; omega

/-- The third block is the whole matrix of the nodes' own weights. -/
theorem own_weights_block (c : Dev nD) (t : Fin cfg0.N) (i j : Fin 128) :
    (iblk m c 2 t : Vec Ideal S128x128 .f32) (ix2 i j) = ownWeights m c (ix2 i j) := by
  unfold iblk
  rw [View.read_apply]
  show V m c main_arg2 _ = _
  rw [V_main_arg2]
  refine congrArg (ownWeights m c) (funext fun a => Fin.ext ?_)
  match a with
  | ⟨0, _⟩ => show win0_2.index t 0 * 128 + 1 * i.val = i.val; rw [(places t).2.2.1.1]; omega
  | ⟨1, _⟩ => show win0_2.index t 1 * 128 + 1 * j.val = j.val; rw [(places t).2.2.1.2]; omega

/-- The fourth block is the whole matrix of the neighbours' weights. -/
theorem neighbour_weights_block (c : Dev nD) (t : Fin cfg0.N) (i j : Fin 128) :
    (iblk m c 3 t : Vec Ideal S128x128 .f32) (ix2 i j) = neighbourWeights m c (ix2 i j) := by
  unfold iblk
  rw [View.read_apply]
  show V m c main_arg3 _ = _
  rw [V_main_arg3]
  refine congrArg (neighbourWeights m c) (funext fun a => Fin.ext ?_)
  match a with
  | ⟨0, _⟩ => show win0_3.index t 0 * 128 + 1 * i.val = i.val; rw [(places t).2.2.2.1.1]; omega
  | ⟨1, _⟩ => show win0_3.index t 1 * 128 + 1 * j.val = j.val; rw [(places t).2.2.2.1.2]; omega

/-- Before the kernel is entered the attention column is laid out as a row. -/
theorem attention_row (c : Dev nD) :
    V m c main_v0 = shapeCast S1x128 (attention m c) shapeCasts_S128x1_S1x128 := by
  show StableHlo.after hostOps0 _ (Proc.devRef .tc main_v0) = _
  after_results
  rfl

/-- The fifth block is the attention column, laid out as a row. -/
theorem attention_block (c : Dev nD) (t : Fin cfg0.N) (j : Fin 128) :
    (iblk m c 4 t : Vec Ideal S1x128 .f32) (ix2 0 j) = attention m c (ix2 j 0) := by
  unfold iblk
  rw [View.read_apply]
  show V m c main_v0 _ = _
  rw [attention_row]
  refine (congrArg (shapeCast S1x128 (attention m c) shapeCasts_S128x1_S1x128)
    (show _ = (ix2 0 j : S1x128.Idx) from funext fun a => Fin.ext ?_)).trans ?_
  · match a with
    | ⟨0, _⟩ => show win0_4.index t 0 * 1 + 1 * 0 = 0; rw [(places t).2.2.2.2.1.1]
    | ⟨1, _⟩ => show win0_4.index t 1 * 128 + 1 * j.val = j.val; rw [(places t).2.2.2.2.1.2]; omega
  · pointwise

/-- The array the kernel leaves, row by row. -/
def result (c : Dev nD) : S10000x128.Idx → EReal := fun i =>
  kernelRow (fun a => own m c (ix2 (i 0) a)) (fun k a => neighbours m c (ix3 (i 0) k a))
    (fun a j => ownWeights m c (ix2 a j)) (fun a j => neighbourWeights m c (ix2 a j))
    (fun j => attention m c (ix2 j 0)) (i 1)

/-- Grid point `t` writes block `t` of that array. -/
theorem flushed_eq (c : Dev nD) (t : Fin cfg0.N) :
    (dats m 0 c).flushed 5 t = (win0_5.blk t).view.read (Elt Ideal) (result m c) := by
  rw [Cert.KernelIdeal.Value.flushed5]
  funext j
  rw [View.read_apply]
  show out0_5 (F := Ideal) _ _ _ _ _ j = _
  idx_vars j
  rw [Block.out_apply]
  simp only [own_block, neighbour_block, own_weights_block, neighbour_weights_block, attention_block]
  refine Eq.trans ?_ (congrArg (result m c)
    (show (ix2 (row t j0) j1 : S10000x128.Idx) = _ from funext fun a => Fin.ext ?_))
  · rfl
  · match a with
    | ⟨0, _⟩ => show t.val * 400 + j0.val = win0_5.index t 0 * 400 + 1 * j0.val; rw [(places t).2.2.2.2.2.1]; omega
    | ⟨1, _⟩ => show j1.val = win0_5.index t 1 * 128 + 1 * j1.val; rw [(places t).2.2.2.2.2.2]; omega

/-- The rows of block `t`. -/
theorem mem_blk (t : Fin cfg0.N) (i : S10000x128.Idx) :
    i ∈ ((cfg0.win 5).blk t).view.set ↔ t.val * 400 ≤ (i 0 : Nat) ∧ (i 0 : Nat) < t.val * 400 + 400 := by
  show i ∈ ((View.whole main_v1).slice (win0_5.rect t)).set ↔ _
  rw [View.set_slice_whole, Rect.mem_set_unit]
  have h1 : (i 1 : Nat) < 128 := (i 1).isLt
  have e0 : win0_5.index t 0 * win0_5.size 0 = t.val * 400 := by rw [(places t).2.2.2.2.2.1]; rfl
  have e1 : win0_5.index t 1 * win0_5.size 1 = 0 := by rw [(places t).2.2.2.2.2.2, Nat.zero_mul]
  refine ⟨fun h => ?_, fun h a => ?_⟩
  · have : win0_5.index t 0 * win0_5.size 0 ≤ (i 0 : Nat) ∧ (i 0 : Nat) < win0_5.index t 0 * win0_5.size 0 + 400 := h 0
    rw [e0] at this; exact this
  · match a with
    | ⟨0, _⟩ => show win0_5.index t 0 * win0_5.size 0 ≤ (i 0 : Nat) ∧ (i 0 : Nat) < win0_5.index t 0 * win0_5.size 0 + 400
                rw [e0]; exact h
    | ⟨1, _⟩ => show win0_5.index t 1 * win0_5.size 1 ≤ (i 1 : Nat) ∧ (i 1 : Nat) < win0_5.index t 1 * win0_5.size 1 + 128
                rw [e1]; omega

/-- Every index of the array lies in the block of some grid point. -/
theorem cover (i : S10000x128.Idx) :
    ∃ t : Fin cfg0.N, (cfg0.win 5).flush t = true ∧ i ∈ ((cfg0.win 5).blk t).view.set := by
  have h0 : (i 0 : Nat) < 10000 := (i 0).isLt
  refine ⟨⟨(i 0 : Nat) / 400, by show _ < grid0.N; rw [N_0]; omega⟩, flush0_5 _, ?_⟩
  rw [mem_blk]
  dsimp only
  omega

/-- So the kernel's result array ends at that array. -/
theorem final_eq (c : Dev nD) : (dats m 0 c).arrAt 5 cfg0.N = result m c :=
  (dats m 0 c).arrAt_eq_of_cover 5 (result m c) (fun t _ => flushed_eq m c t) cover

/-- The kernel's run: the result array as above, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_eq m c), (h c).2⟩)
    (Cert.KernelIdeal.Value.run_blocks m ρ)

end Cert.KernelIdeal.Result

end
-- ==== Proof.Along.lean ====
/-
  Two host operations of the reference, read at an index: the positions a stable top-16 of 32 names, and a
  gather that takes, in each row, the entries at given positions.
-/
module

public import proofs.«01_k».proof.Proof.Row
public import Idealize.ShloMosaic.Lib.Pointwise

@[expose] public section

set_option maxRecDepth 16384

noncomputable section

namespace Cert.Along

open Idealize.ShloMosaic Cert.Row

/-- Changing the second coordinate of a matrix index. -/
theorem along_column {m n : Nat} (r : Fin m) (k q : Fin n) : (ix2 r k).along 1 q = ix2 r q := by
  funext a
  match a with
  | ⟨0, _⟩ => rfl
  | ⟨1, _⟩ => rfl

/-- The host's "greater" on extended reals, as a truth value. -/
theorem greater_eq (a b : EReal) :
    (FloatOps.cmpfTotal (F := Ideal) (φ := .f32) .gt a b == 1#1) = decide (b < a) := by
  show (BitVec.ofBool (decide (b < a)) == 1#1) = decide (b < a)
  cases decide (b < a) <;> rfl

/-- The position that the top-16 of a row names at place `t`. -/
theorem topK_position (x : FVec Ideal ⟨2, ![10000, 32]⟩ .f32)
    (h : (⟨2, ![10000, 32]⟩ : Shape).Slices (fun _ => 0) ⟨2, ![10000, 16]⟩) (r : Fin 10000) (t : Fin 16) :
    (Host.topK ⟨2, ![10000, 16]⟩ 1 (FloatOps.cmpfTotal .gt) x h).2 (ix2 r t)
      = BitVec.ofNat 32 (pick (fun k => x (ix2 r k)) t).val := by
  unfold Host.topK Host.sort2
  simp only [show 1 < (⟨2, ![10000, 32]⟩ : Shape).rank from Nat.one_lt_two, dif_pos]
  pointwise
  simp only [along_column, greater_eq]
  rfl

/-- The dimension numbers of a gather that takes, in each row of a [10000, 32, C] operand, the entries of 16
    positions along the second axis, whole along the third. -/
abbrev alongDims (C : Nat) (wf : GatherDims.WF ⟨3, ![10000, 32, C]⟩ ⟨3, ![10000, 16, 1]⟩ ⟨3, ![10000, 16, C]⟩
    [2] [1] [0] [1] [0] 2 ![1, 1, C]) :
    GatherDims ⟨3, ![10000, 32, C]⟩ ⟨3, ![10000, 16, 1]⟩ ⟨3, ![10000, 16, C]⟩ where
  offsetDims := [2]
  collapsedSliceDims := [1]
  operandBatchingDims := [0]
  startIndicesBatchingDims := [0]
  startIndexMap := [1]
  indexVectorDim := 2
  sliceSizes := ![1, 1, C]
  wf := wf

/-- That gather reads the operand at the position its word names, when the word is below 32. -/
theorem gather_along {α : Type} {C : Nat} (wf : GatherDims.WF ⟨3, ![10000, 32, C]⟩ ⟨3, ![10000, 16, 1]⟩
    ⟨3, ![10000, 16, C]⟩ [2] [1] [0] [1] [0] 2 ![1, 1, C]) (T : (⟨3, ![10000, 32, C]⟩ : Shape).Idx → α)
    (w : IVec ⟨3, ![10000, 16, 1]⟩ 32) (r : Fin 10000) (t : Fin 16) (c : Fin C) (p : Fin 32)
    (hp : w (ix3 r t 0) = BitVec.ofNat 32 p.val) :
    Host.gather (alongDims C wf) T w (ix3 r t c) = T (ix3 r p c) := by
  unfold Host.gather
  congr 1
  funext a
  apply Fin.ext
  match a with
  | ⟨0, _⟩ =>
    show (alongDims C wf).start (ix3 r t c) w 0 + (alongDims C wf).batchCoord (ix3 r t c) 0
      + (alongDims C wf).offCoord (ix3 r t c) 0 = r.val
    rw [GatherDims.start_batching _ _ _ _ (List.mem_singleton.2 rfl),
      GatherDims.offCoord_eq_zero _ _ _ fun h => ((GatherDims.mem_sKept _ _).1 h).2 (List.mem_singleton.2 rfl)]
    simp only [Nat.add_zero, Nat.zero_add]
    rfl
  | ⟨1, _⟩ =>
    show (alongDims C wf).start (ix3 r t c) w 1 + (alongDims C wf).batchCoord (ix3 r t c) 1
      + (alongDims C wf).offCoord (ix3 r t c) 1 = p.val
    rw [GatherDims.batchCoord_eq_zero _ _ _ (by decide : (1 : Fin 3) ∉ [(0 : Fin 3)]),
      GatherDims.offCoord_eq_zero _ _ _ fun h => ((GatherDims.mem_sKept _ _).1 h).1 (List.mem_singleton.2 rfl)]
    simp only [Nat.add_zero]
    unfold GatherDims.start
    rw [dif_pos (show (1 : Fin 3) ∈ (alongDims C wf).startIndexMap from List.mem_singleton.2 rfl)]
    have hsi : (alongDims C wf).siIdx (ix3 r t c) ⟨List.idxOf (1 : Fin 3) (alongDims C wf).startIndexMap,
        List.idxOf_lt_length_iff.2 (List.mem_singleton.2 rfl)⟩ = ix3 r t 0 := by
      funext b; refine Fin.ext ?_
      match b with
      | ⟨0, _⟩ => rfl
      | ⟨1, _⟩ => rfl
      | ⟨2, _⟩ => rfl
    rw [hsi, hp]
    show min (BitVec.ofNat 32 p.val).toInt.toNat 31 = p.val
    exact (by decide : ∀ q : Fin 32, min (BitVec.ofNat 32 q.val).toInt.toNat 31 = q.val) p
  | ⟨2, _⟩ =>
    show (alongDims C wf).start (ix3 r t c) w 2 + (alongDims C wf).batchCoord (ix3 r t c) 2
      + (alongDims C wf).offCoord (ix3 r t c) 2 = c.val
    rw [GatherDims.batchCoord_eq_zero _ _ _ (by decide : (2 : Fin 3) ∉ [(0 : Fin 3)])]
    unfold GatherDims.start
    rw [dif_neg (by decide : (2 : Fin 3) ∉ [(1 : Fin 3)])]
    simp only [Nat.add_zero, Nat.zero_add]
    rfl

end Cert.Along

end
-- ==== Proof.ReferenceRow.lean ====
/-
  What the reference computes, read one row at a time: row `r` of its result is `Cert.Row.referenceRow` of row `r`
  of its arguments.
-/
module

public import proofs.«01_k».proof.Proof.Gen.ReferenceIdeal.Read
public import proofs.«01_k».proof.Proof.Along
public import proofs.«01_k».proof.Proof.Words

@[expose] public section

set_option maxRecDepth 16384

noncomputable section

namespace Cert.ReferenceIdeal.Rows

open Idealize.ShloMosaic Cert.ReferenceIdeal Cert.ReferenceIdeal.Gen Cert.ReferenceIdeal.Read
open Cert.Row Cert.Words Cert.Along

variable (x0 : (⟨S10000x128, .f32⟩ : BufTy).Contents (Elt Ideal))
  (x1 : (⟨S10000x32x128, .f32⟩ : BufTy).Contents (Elt Ideal))
  (x2 x3 : (⟨S128x128, .f32⟩ : BufTy).Contents (Elt Ideal)) (x4 : (⟨S128x1, .f32⟩ : BufTy).Contents (Elt Ideal))

/-- The greatest of 33 logits is the greatest of the last 32 and the first. -/
theorem fold_first (f : Fin 33 → EReal) :
    Finset.univ.fold max ⊥ f = top (fun k => f k.succ) (f 0) := by
  refine eq_of_forall_ge_iff fun c => ?_
  unfold top
  rw [max_le_iff, Finset.fold_max_le, Finset.fold_max_le]
  simp only [bot_le, true_and, Finset.mem_univ, forall_const, Fin.forall_fin_succ (n := 32)]
  exact and_comm

/-- The projected features of the nodes themselves. -/
theorem own_apply (r : Fin 10000) (d : Fin 128) :
    val_main_v0 (F := Ideal) x0 x2 (ix2 r d) = project (fun i => x0 (ix2 r i)) (fun i j => x2 (ix2 i j)) d := by
  unfold val_main_v0
  pointwise
  rfl

/-- The projected features of the neighbours. -/
theorem neighbour_apply (r : Fin 10000) (k : Fin 32) (d : Fin 128) :
    val_main_v3 (F := Ideal) x1 x3 (ix3 r k d)
      = project (fun i => x1 (ix3 r k i)) (fun i j => x3 (ix2 i j)) d := by
  unfold val_main_v3 val_main_v2 val_main_v1
  pointwise
  rfl

/-- The node's own logit stands first of the 33. -/
theorem logit_first (r : Fin 10000) :
    val_main_v9 (F := Ideal) x0 x1 x2 x3 x4 (ix3 r 0 0)
      = logit (project (fun i => x0 (ix2 r i)) (fun i j => x2 (ix2 i j))) (fun j => x4 (ix2 j 0)) := by
  have hH := own_apply x0 x2 r
  unfold val_main_v9 val_main_v8 val_main_v7 val_main_v6 val_main_v5 val_main_v4 val_main_call0_v0 val_main_call0_cst
  generalize val_main_v3 (F := Ideal) x1 x3 = T
  generalize val_main_v0 (F := Ideal) x0 x2 = H at hH ⊢
  pointwise
  simp [hH, logit]

/-- The neighbours' logits follow it. -/
theorem logit_later (r : Fin 10000) (k : Fin 32) :
    val_main_v9 (F := Ideal) x0 x1 x2 x3 x4 (ix3 r k.succ 0)
      = logit (project (fun i => x1 (ix3 r k i)) (fun i j => x3 (ix2 i j))) (fun j => x4 (ix2 j 0)) := by
  have hT := neighbour_apply x1 x3 r
  unfold val_main_v9 val_main_v8 val_main_v7 val_main_v6 val_main_v5 val_main_v4 val_main_call0_v0 val_main_call0_cst
  generalize val_main_v3 (F := Ideal) x1 x3 = T at hT ⊢
  generalize val_main_v0 (F := Ideal) x0 x2 = H
  pointwise
  simp [hT, logit]

/-- The neighbours' softmax scores, `x` below. -/
theorem scores_apply (r : Fin 10000) (k : Fin 32) :
    val_main_v20 (F := Ideal) x0 x1 x2 x3 x4 (ix3 r k.succ 0)
      = score (fun q => val_main_v9 (F := Ideal) x0 x1 x2 x3 x4 (ix3 r q.succ 0))
          (val_main_v9 (F := Ideal) x0 x1 x2 x3 x4 (ix3 r 0 0)) k := by
  unfold val_main_v20 val_main_v19 val_main_v18 val_main_v17 val_main_v16 val_main_v15 val_main_v14 val_main_v13
    val_main_v12 val_main_v11 val_main_v10 val_main_cst val_main_cst_0 val_main_cst_1
  generalize val_main_v9 (F := Ideal) x0 x1 x2 x3 x4 = T
  pointwise
  simp only [bits_bot, bot_le, max_eq_right, zero_add, Fin.sum_univ_succ (n := 32)]
  rw [fold_first fun q => T (ix3 r q 0)]
  rfl

/-- The scores of one node's neighbours. -/
def scores (r : Fin 10000) : Fin 32 → EReal :=
  score (fun k => logit (project (fun i => x1 (ix3 r k i)) (fun i j => x3 (ix2 i j))) (fun j => x4 (ix2 j 0)))
    (logit (project (fun i => x0 (ix2 r i)) (fun i j => x2 (ix2 i j))) (fun j => x4 (ix2 j 0)))

theorem score_eq (r : Fin 10000) (k : Fin 32) :
    val_main_v20 (F := Ideal) x0 x1 x2 x3 x4 (ix3 r k.succ 0) = scores x0 x1 x2 x3 x4 r k := by
  rw [scores_apply]
  simp only [logit_first, logit_later]
  rfl

/-- The positions named by the top-16 of the scores. -/
theorem position_apply (r : Fin 10000) (t : Fin 16) :
    val_main_indices (F := Ideal) x0 x1 x2 x3 x4 (ix2 r t)
      = BitVec.ofNat 32 (pick (scores x0 x1 x2 x3 x4 r) t).val := by
  unfold val_main_indices
  refine (topK_position _ _ r t).trans ?_
  have h : (fun k => val_main_v22 (F := Ideal) x0 x1 x2 x3 x4 (ix2 r k)) = scores x0 x1 x2 x3 x4 r := by
    funext k
    rw [← score_eq]
    unfold val_main_v22 val_main_v21
    pointwise
    exact congrArg (fun q => val_main_v20 (F := Ideal) x0 x1 x2 x3 x4 (ix3 r q 0))
      (Fin.ext (by show 1 + k.val = k.val + 1; omega))
  rw [h]

/-- Words of positions below 32 pass the reference's test that they are in range, and its wrap of negative ones
    leaves them alone. -/
theorem in_range : ∀ p : Fin 32,
    Scalar.select (IntOp.cmpi .slt (BitVec.ofNat 32 p.val) 0#32) (IntOp.addi (BitVec.ofNat 32 p.val) 32#32)
        (BitVec.ofNat 32 p.val) = BitVec.ofNat 32 p.val
      ∧ IntOp.andi (IntOp.cmpi .sge (BitVec.ofNat 32 p.val) 0#32) (IntOp.cmpi .sle (BitVec.ofNat 32 p.val) 31#32)
        = 1#1 := by decide

/-- The conjunction of a single true bit. -/
theorem all_one : Finset.fold IntOp.andi (1#1) (fun _ : Fin 1 => 1#1) Finset.univ = 1#1 := by decide

/-- The scores the second gather reads. -/
theorem listed_score (r : Fin 10000) (k : Fin 32) :
    val_main_v25 (F := Ideal) x0 x1 x2 x3 x4 (ix3 r k 0) = scores x0 x1 x2 x3 x4 r k := by
  rw [← score_eq]
  unfold val_main_v25
  pointwise
  exact congrArg (fun q => val_main_v20 (F := Ideal) x0 x1 x2 x3 x4 (ix3 r q 0))
    (Fin.ext (by show 1 + k.val = k.val + 1; omega))

/-- The projected features of the neighbour at a named position. -/
theorem taken_features (r : Fin 10000) (t : Fin 16) (d : Fin 128) :
    val_main_v24 (F := Ideal) x0 x1 x2 x3 x4 (ix3 r t d)
      = project (fun i => x1 (ix3 r (pick (scores x0 x1 x2 x3 x4 r) t) i)) (fun i j => x3 (ix2 i j)) d := by
  rw [← neighbour_apply]
  have hp := position_apply x0 x1 x2 x3 x4 r t
  generalize pick (scores x0 x1 x2 x3 x4 r) t = p at hp ⊢
  unfold val_main_v24 val_main_call1_v14 val_main_call1_v13 val_main_call1_v12 val_main_call1_v11 val_main_call1_v10
    val_main_call1_v9 val_main_call1_v8 val_main_call1_v7 val_main_call1_v6 val_main_call1_v5 val_main_call1_v4
    val_main_call1_v3 val_main_call1_v2 val_main_call1_v1 val_main_call1_v0 val_main_v23 val_main_call1_c
    val_main_call1_c_0 val_main_call1_c_1 val_main_call1_c_2 val_main_call1_c_3
  generalize val_main_indices (F := Ideal) x0 x1 x2 x3 x4 = W at hp ⊢
  generalize val_main_v3 (F := Ideal) x1 x3 = T
  have hg := fun w hw => gather_along
    gather_S10000x32x128_S10000x16x1_S10000x16x128_2_1_0_0_1_2_11128_wf T w r t d p hw
  pointwise
  simp only [hp, in_range p, all_one]
  refine (hg _ ?_)
  pointwise
  simp only [hp, in_range p]

/-- The score of the neighbour at a named position. -/
theorem taken_score (r : Fin 10000) (t : Fin 16) :
    val_main_v27 (F := Ideal) x0 x1 x2 x3 x4 (ix3 r t 0)
      = scores x0 x1 x2 x3 x4 r (pick (scores x0 x1 x2 x3 x4 r) t) := by
  rw [← listed_score]
  have hp := position_apply x0 x1 x2 x3 x4 r t
  generalize pick (scores x0 x1 x2 x3 x4 r) t = p at hp ⊢
  unfold val_main_v27 val_main_call2_v14 val_main_call2_v13 val_main_call2_v12 val_main_call2_v11 val_main_call2_v10
    val_main_call2_v9 val_main_call2_v8 val_main_call2_v7 val_main_call2_v6 val_main_call2_v5 val_main_call2_v4
    val_main_call2_v3 val_main_call2_v2 val_main_call2_v1 val_main_call2_v0 val_main_v26 val_main_call2_c
    val_main_call2_c_0 val_main_call2_c_1 val_main_call2_c_2 val_main_call2_c_3
  generalize val_main_indices (F := Ideal) x0 x1 x2 x3 x4 = W at hp ⊢
  generalize val_main_v25 (F := Ideal) x0 x1 x2 x3 x4 = T
  have hg := fun w hw => gather_along
    gather_S10000x32x1_S10000x16x1_S10000x16x1_2_1_0_0_1_2_111_wf T w r t 0 p hw
  pointwise
  simp only [hp, in_range p, all_one]
  refine (hg _ ?_)
  pointwise
  simp only [hp, in_range p]

/-- Row `r` of the reference's result, at column `d`. -/
theorem out_apply (r : Fin 10000) (d : Fin 128) :
    val_main_v32 (F := Ideal) x0 x1 x2 x3 x4 (ix2 r d)
      = referenceRow (fun i => x0 (ix2 r i)) (fun k i => x1 (ix3 r k i)) (fun i j => x2 (ix2 i j))
          (fun i j => x3 (ix2 i j)) (fun j => x4 (ix2 j 0)) d := by
  have hf := fun t => taken_features x0 x1 x2 x3 x4 r t d
  have hs := taken_score x0 x1 x2 x3 x4 r
  have hH := own_apply x0 x2 r d
  unfold val_main_v32 val_main_v31 val_main_v30 val_main_v29 val_main_v28 val_main_cst_2 val_main_call3_v0
    val_main_call3_cst
  generalize val_main_v24 (F := Ideal) x0 x1 x2 x3 x4 = A at hf ⊢
  generalize val_main_v27 (F := Ideal) x0 x1 x2 x3 x4 = B at hs ⊢
  generalize val_main_v0 (F := Ideal) x0 x2 = H at hH ⊢
  pointwise
  simp only [hf, hs, hH]
  rfl

end Cert.ReferenceIdeal.Rows

end
-- ==== Proof.Selection.lean ====
/-
  Two ways to choose sixteen of the 32 neighbours: the first sixteen of a stable descending sort, and those with
  fewer than sixteen others ahead of them. A sum over either choice is the same.
-/
module

public import proofs.«01_k».proof.Proof.Row
public import Idealize.ShloMosaic.Lib.SortPrefix

@[expose] public section

noncomputable section

namespace Cert.Row

open Idealize.ShloMosaic

/-- Position `p` is ahead of position `q` in the descending order of `x`: it holds more, or as much and is the
    smaller position. -/
def ahead (x : Fin 32 → EReal) (p q : Fin 32) : Bool :=
  decide (x q < x p) || (decide (x p = x q) && decide (p < q))

/-- Being ahead, as a proposition. -/
theorem ahead_iff (x : Fin 32 → EReal) (p q : Fin 32) :
    ahead x p q = true ↔ x q < x p ∨ (x p = x q ∧ p < q) := by
  simp [ahead]

/-- Being ahead orders the positions strictly and totally. -/
theorem ahead_total (x : Fin 32 → EReal) : StrictTotalBefore (ahead x) :=
  StrictTotalBefore.of_key_then_position (fun u v : EReal => decide (v < u)) x
    (fun a => by simp)
    (fun a b c hab hbc => by
      simp only [decide_eq_true_eq] at hab hbc ⊢
      exact lt_trans hbc hab)
    (fun a b => by
      simp only [decide_eq_true_eq]
      rcases lt_trichotomy a b with h | h | h
      · exact Or.inr (Or.inr h)
      · exact Or.inr (Or.inl h)
      · exact Or.inl h)

/-- On a list of increasing positions the stable sort by value alone is the sort by value and then position. -/
theorem stableSort_ahead (x : Fin 32 → EReal) (m : List (Fin 32)) (hm : m.Pairwise (· < ·)) :
    stableSort (fun p q => decide (x q < x p)) m = stableSort (ahead x) m := by
  induction m with
  | nil => rfl
  | cons a m ih =>
    rw [List.pairwise_cons] at hm
    unfold stableSort
    rw [ih hm.2]
    refine insertBefore_congr _ _ a _ fun b hb => ?_
    have hlt : a < b := hm.1 b ((perm_stableSort _ m).mem_iff.mp hb)
    rw [Bool.eq_iff_iff, ahead_iff, decide_eq_true_eq]
    exact ⟨Or.inl, fun h => h.resolve_right fun h' => absurd h'.2 (not_lt.mpr hlt.le)⟩

/-- Two orders that sort the positions into one list put the same position at every place. -/
theorem sortedFrom_of_positions {n : Nat} (R R' : Fin n → Fin n → Bool)
    (h : sortPositions n R = sortPositions n R') : sortedFrom R = sortedFrom R' := by
  funext k
  unfold sortedFrom
  rw [List.get_of_eq h]
  rfl

/-- The descending stable sort of all positions is the sort by value and then position. -/
theorem sortedFrom_ahead (x : Fin 32 → EReal) :
    sortedFrom (fun p q : Fin 32 => decide (x q < x p)) = sortedFrom (ahead x) :=
  sortedFrom_of_positions _ _ (stableSort_ahead x (List.finRange 32) (List.pairwise_lt_finRange 32))

/-- The places of the sort are in the order of being ahead. -/
theorem ahead_sorted (x : Fin 32 → EReal) (p q : Fin 32) :
    ahead x (sortedFrom (ahead x) p) (sortedFrom (ahead x) q) = true ↔ p < q := by
  have hB := ahead_total x
  have hno := sortedFrom_noInversion (ahead x) (ahead x) (fun a b h => hB.asymm a b h) (fun _ _ h => h) hB.negTrans
  constructor
  · intro h
    by_contra hle
    rcases lt_or_eq_of_le (not_lt.mp hle) with hqp | hqp
    · rw [hno q p hqp] at h; exact absurd h (by decide)
    · rw [hqp, hB.irrefl] at h; exact absurd h (by decide)
  · intro h
    have hne : sortedFrom (ahead x) p ≠ sortedFrom (ahead x) q := fun e =>
      absurd (sortedFrom_injective _ e) h.ne
    refine (hB.total _ _ hne).resolve_right fun h' => ?_
    rw [hno p q h] at h'
    exact absurd h' (by decide)

/-- How many positions are ahead of position `k`. -/
def place (x : Fin 32 → EReal) (k : Fin 32) : Nat := (Finset.univ.filter fun j => ahead x j k = true).card

/-- The position the sort puts at place `q` has `q` positions ahead of it. -/
theorem place_sorted (x : Fin 32 → EReal) (q : Fin 32) : place x (sortedFrom (ahead x) q) = q.val := by
  unfold place
  have hmap : (Finset.univ.filter fun j => ahead x j (sortedFrom (ahead x) q) = true)
      = (Finset.univ.filter fun p : Fin 32 => p < q).map ⟨sortedFrom (ahead x), sortedFrom_injective _⟩ := by
    ext j
    obtain ⟨p, rfl⟩ := sortedFrom_surjective (ahead x) j
    simp [ahead_sorted, (sortedFrom_injective (ahead x)).eq_iff]
  rw [hmap, Finset.card_map, ← Fin.card_Iio q]
  exact congrArg Finset.card (by ext p; simp)

/-- Counting one by one is adding up: a left fold that adds is the sum of the list. -/
theorem foldl_add_add {ι : Type} (f g : ι → EReal) (m : List ι) (r : EReal) :
    m.foldl (fun r j => r + f j + g j) r = r + (m.map fun j => f j + g j).sum := by
  induction m generalizing r with
  | nil => simp
  | cons a m ih => rw [List.foldl_cons, ih, List.map_cons, List.sum_cons, add_assoc, add_assoc, add_assoc]

/-- The one-by-one count is the number of positions ahead. -/
theorem countAhead_eq (l : Fin 32 → EReal) (k : Fin 32) : countAhead l k = (place l k : EReal) := by
  unfold countAhead
  rw [foldl_add_add, zero_add, ← Fin.sum_univ_def]
  unfold place
  rw [← Finset.sum_boole]
  refine Finset.sum_congr rfl fun j _ => ?_
  by_cases h1 : l k < l j
  · rw [if_pos h1, if_neg (fun h => absurd h.1 h1.ne'), if_pos ((ahead_iff l j k).mpr (Or.inl h1)), add_zero]
  · rw [if_neg h1, zero_add]
    refine if_congr ?_ rfl rfl
    rw [ahead_iff]
    exact ⟨Or.inr, fun h => h.resolve_left h1⟩

/-- A neighbour is kept when fewer than sixteen are ahead of it. -/
theorem kept_eq (l : Fin 32 → EReal) (k : Fin 32) : kept l k = if place l k < 16 then 1 else 0 := by
  unfold kept
  rw [countAhead_eq]
  refine if_congr ?_ rfl rfl
  rw [← Nat.cast_ofNat (R := EReal), EReal.natCast_lt_iff]

/-- A sum over the 32 neighbours is the sum over the first sixteen and over the last sixteen. -/
theorem sum_halves {M : Type} [AddCommMonoid M] (f : Fin 32 → M) :
    ∑ k, f k = ∑ k, f (lower k) + ∑ k, f (upper k) :=
  Fin.sum_univ_add (a := 16) (b := 16) f

/-- A sum over the sixteen neighbours the sort puts first is the sum over those with fewer than sixteen ahead. -/
theorem sum_pick {M : Type} [AddCommMonoid M] (x : Fin 32 → EReal) (f : Fin 32 → M) :
    ∑ t, f (pick x t) = ∑ k, if place x k < 16 then f k else 0 := by
  have hbij : Function.Bijective (sortedFrom (ahead x)) := ⟨sortedFrom_injective _, sortedFrom_surjective _⟩
  rw [← hbij.sum_comp, sum_halves]
  simp only [place_sorted]
  rw [Finset.sum_eq_zero (s := Finset.univ) (f := fun k : Fin 16 => if (upper k).val < 16 then _ else _)
    (fun k _ => if_neg (by show ¬ 16 + k.val < 16; omega)), add_zero]
  refine Finset.sum_congr rfl fun t _ => ?_
  rw [if_pos (show t.val < 16 from t.isLt)]
  unfold pick
  rw [sortedFrom_ahead]

/-- Values in the same order have the same positions ahead. -/
theorem place_congr (x y : Fin 32 → EReal) (h : ∀ p q, x p < x q ↔ y p < y q) (k : Fin 32) : place x k = place y k := by
  have heq : ∀ p q, x p = x q ↔ y p = y q := fun p q => by
    rw [le_antisymm_iff, le_antisymm_iff, ← not_lt, ← not_lt, ← not_lt, ← not_lt, h, h]
  unfold place ahead
  simp only [h, heq]

end Cert.Row

end
-- ==== Proof.Equation.lean ====
/-
  The equation: on rows of real numbers the kernel's row is the reference's row. The logits agree because a sum of
  products may be taken in either order, the two selections of sixteen neighbours agree because the scores are in the
  order of the logits, and the weighted sum may be projected before or after it is added up.
-/
module

public import proofs.«01_k».proof.Proof.Selection

@[expose] public section

noncomputable section

namespace Cert.Row

open Idealize.ShloMosaic

/-- A sum of real numbers, taken among the extended reals. -/
theorem coe_sum {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- The greater of two real numbers, taken among the extended reals. -/
theorem coe_max (x y : ℝ) : max (x : EReal) y = ((max x y : ℝ) : EReal) := (EReal.coe_strictMono.monotone.map_max).symm

/-- The projection of a real vector by a real matrix. -/
theorem project_coe (x : Fin 128 → ℝ) (w : Fin 128 → Fin 128 → ℝ) (d : Fin 128) :
    project (fun i => x i) (fun i j => w i j) d = ((∑ i, x i * w i d : ℝ) : EReal) := by
  unfold project
  rw [← coe_sum]
  exact Finset.sum_congr rfl fun i _ => (EReal.coe_mul _ _).symm

/-- The logit of a projected real vector. -/
theorem logit_coe (x : Fin 128 → ℝ) (w : Fin 128 → Fin 128 → ℝ) (a : Fin 128 → ℝ) :
    logit (project (fun i => x i) fun i j => w i j) (fun j => a j)
      = ((max (∑ j, (∑ i, x i * w i j) * a j) 0 : ℝ) : EReal) := by
  unfold logit
  simp only [project_coe, ← EReal.coe_mul, coe_sum]
  rw [← EReal.coe_zero, coe_max]

/-- The logit with the attention vector put through the weights first is the same number. -/
theorem foldedLogit_coe (x : Fin 128 → ℝ) (w : Fin 128 → Fin 128 → ℝ) (a : Fin 128 → ℝ) :
    foldedLogit (fun i => x i) (fun i j => w i j) (fun j => a j)
      = ((max (∑ j, (∑ i, x i * w i j) * a j) 0 : ℝ) : EReal) := by
  unfold foldedLogit
  simp only [← EReal.coe_mul, coe_sum]
  rw [← EReal.coe_zero, coe_max]
  congr 2
  simp only [Finset.sum_mul, Finset.mul_sum]
  rw [Finset.sum_comm]
  exact Finset.sum_congr rfl fun j _ => Finset.sum_congr rfl fun i _ => by ring

/-- The greatest of real logits is a real number. -/
theorem top_coe (l : Fin 32 → ℝ) (o : ℝ) : ∃ M : ℝ, top (fun k => l k) o = M := by
  have hbot : top (fun k => l k) o ≠ ⊥ :=
    ((EReal.bot_lt_coe o).trans_le (le_max_right _ _)).ne'
  have htop : top (fun k => l k) o ≠ ⊤ :=
    (max_lt ((Finset.fold_max_lt _).mpr ⟨bot_lt_top, fun k _ => EReal.coe_lt_top (l k)⟩) (EReal.coe_lt_top o)).ne
  exact ⟨_, (EReal.coe_toReal htop hbot).symm⟩

/-- The scores of real logits are real numbers, in the order of the logits. -/
theorem score_coe (l : Fin 32 → ℝ) (o : ℝ) :
    ∃ x : Fin 32 → ℝ, (∀ k, score (fun k => l k) o k = x k) ∧ ∀ p q, l p < l q ↔ x p < x q := by
  obtain ⟨M, hM⟩ := top_coe l o
  have hexp : ∀ u : ℝ, Ideal.exp ((u : EReal) - M) = (Real.exp (u - M) : EReal) := fun u => by
    rw [← EReal.coe_sub]; rfl
  have hz : 0 < Real.exp (o - M) + ∑ q, Real.exp (l q - M) :=
    add_pos_of_pos_of_nonneg (Real.exp_pos _) (Finset.sum_nonneg fun q _ => (Real.exp_pos _).le)
  refine ⟨fun k => Real.exp (l k - M) * (Real.exp (o - M) + ∑ q, Real.exp (l q - M))⁻¹, fun k => ?_, fun p q => ?_⟩
  · unfold score
    rw [hM]
    simp only [hexp, coe_sum]
    rw [← EReal.coe_add]
    unfold Ideal.div
    rw [if_neg (by exact_mod_cast hz.ne'), ← EReal.coe_inv, ← EReal.coe_mul]
  · rw [mul_lt_mul_iff_left₀ (inv_pos.mpr hz), Real.exp_lt_exp, sub_lt_sub_iff_right]

/-- The kernel's row is the reference's row, whenever every number in it is real. -/
theorem kernelRow_eq (s : Fin 128 → ℝ) (n : Fin 32 → Fin 128 → ℝ) (ws wn : Fin 128 → Fin 128 → ℝ)
    (a : Fin 128 → ℝ) (d : Fin 128) :
    kernelRow (fun i => s i) (fun k i => n k i) (fun i j => ws i j) (fun i j => wn i j) (fun j => a j) d
      = referenceRow (fun i => s i) (fun k i => n k i) (fun i j => ws i j) (fun i j => wn i j) (fun j => a j) d := by
  unfold kernelRow referenceRow
  simp only [foldedLogit_coe, logit_coe]
  generalize max (∑ j, (∑ i, s i * ws i j) * a j) 0 = o
  generalize hl : (fun k => max (∑ j, (∑ i, n k i * wn i j) * a j) 0) = l
  have hlk : ∀ k, max (∑ j, (∑ i, n k i * wn i j) * a j) 0 = l k := fun k => congrFun hl k
  simp only [hlk]
  obtain ⟨x, hx, hord⟩ := score_coe l o
  have hfun : score (fun k => l k) o = fun k => (x k : EReal) := funext hx
  rw [hfun]
  congr 2
  rw [sum_pick (fun k => (x k : EReal)) fun k => project (fun i => (n k i : EReal)) (fun i j => (wn i j : EReal)) d * x k]
  have hw : ∀ k, (x k : EReal) * kept (fun k => (l k : EReal)) k
      = ((if place (fun k => (x k : EReal)) k < 16 then x k else 0 : ℝ) : EReal) := fun k => by
    rw [kept_eq, place_congr (fun k => (l k : EReal)) (fun k => (x k : EReal))
      (fun p q => by rw [EReal.coe_lt_coe_iff, EReal.coe_lt_coe_iff]; exact hord p q)]
    split <;> simp
  simp only [hw]
  generalize hW : (fun k => if place (fun k => (x k : EReal)) k < 16 then x k else 0) = W
  have hWk : ∀ k, (if place (fun k => (x k : EReal)) k < 16 then x k else 0) = W k := fun k => congrFun hW k
  have hR : ∀ k, (if place (fun k => (x k : EReal)) k < 16
        then project (fun i => (n k i : EReal)) (fun i j => (wn i j : EReal)) d * (x k : EReal) else 0)
      = (((∑ i, n k i * wn i d) * W k : ℝ) : EReal) := fun k => by
    rw [← hWk, project_coe]
    split <;> simp
  simp only [hWk, hR]
  have hsum : ∀ i, (∑ k : Fin 16, (n (lower k) i : EReal) * (W (lower k) : EReal))
      + ∑ k : Fin 16, (n (upper k) i : EReal) * (W (upper k) : EReal) = ((∑ k, n k i * W k : ℝ) : EReal) := fun i => by
    rw [← sum_halves fun k => (n k i : EReal) * (W k : EReal), ← coe_sum]
    exact Finset.sum_congr rfl fun k _ => (EReal.coe_mul _ _).symm
  simp only [hsum]
  rw [project_coe, coe_sum]
  congr 1
  simp only [Finset.sum_mul]
  rw [Finset.sum_comm]
  exact Finset.sum_congr rfl fun k _ => Finset.sum_congr rfl fun i _ => by ring

end Cert.Row

end
-- ==== Proof.Finite.lean ====
/-
  What the precondition says: every number of the five argument arrays is a real number.
-/
module

public import proofs.«01_k».proof.Pre_finite
public import proofs.«01_k».proof.Proof.Words

@[expose] public section

noncomputable section

namespace Cert.Finite

open Idealize.ShloMosaic Cert.Pre_finite Cert.Words

/-- The relations between shapes the precondition's operations take. -/
theorem facts : Cert.Pre_finite.Facts where
  bcast_S_S10000x128 := by decide
  bcast_S_S10000x32x128 := by decide
  bcast_S_S128x128 := by decide
  bcast_S_S128x1 := by decide

/-- An extended real whose absolute value is less than plus infinity is a real number. -/
theorem real_of_abs_lt (x : EReal) (h : BitVec.ofBool (decide (max x (-x) < Ideal.ofBits .f32 2139095040#32)) = 1#1) :
    ∃ u : ℝ, x = u := by
  rw [bits_top] at h
  have hlt : max x (-x) < ⊤ := by
    by_contra hn
    rw [decide_eq_false hn] at h
    exact absurd h (by decide)
  rw [max_lt_iff] at hlt
  refine ⟨x.toReal, (EReal.coe_toReal hlt.1.ne fun e => ?_).symm⟩
  rw [e] at hlt
  exact absurd hlt.2 (by simp)

/-- One array of the precondition: where the comparison of every absolute value with plus infinity holds, the numbers
    are real. -/
theorem real_of_array {s : Shape} (hb : S_.BroadcastsInDim s ![]) (v : FVec Ideal s .f32)
    (h : cmpf .olt (Host.absf v) (broadcastInDim s ![] hb (constant S_ .f32 0x7F800000#32)) = fun _ => 1#1) :
    ∃ u : s.Idx → ℝ, v = fun i => (u i : EReal) := by
  have hreal : ∀ i, ∃ u : ℝ, v i = u := fun i => real_of_abs_lt (v i) (congrFun h i)
  choose u hu using hreal
  exact ⟨u, funext hu⟩

end Cert.Finite

end
-- ==== Proof.Agree.lean ====
/-
  The two result arrays are equal when the precondition holds.
-/
module

public import proofs.«01_k».proof.Proof.KernelArray
public import proofs.«01_k».proof.Proof.ReferenceRow
public import proofs.«01_k».proof.Proof.Equation
public import proofs.«01_k».proof.Proof.Finite

@[expose] public section

set_option maxRecDepth 16384

noncomputable section

namespace Cert.Agree

open Idealize.ShloMosaic Cert.Row

/-- On five arrays of real numbers the reference's result holds, at row `r` and column `d`, what the kernel
    computes for row `r`. -/
theorem arrays_agree (x0 : Pre_finite.S10000x128.Idx → EReal) (x1 : Pre_finite.S10000x32x128.Idx → EReal)
    (x2 x3 : Pre_finite.S128x128.Idx → EReal) (x4 : Pre_finite.S128x1.Idx → EReal)
    (h0 : ∃ u : _ → ℝ, x0 = fun i => (u i : EReal)) (h1 : ∃ u : _ → ℝ, x1 = fun i => (u i : EReal))
    (h2 : ∃ u : _ → ℝ, x2 = fun i => (u i : EReal)) (h3 : ∃ u : _ → ℝ, x3 = fun i => (u i : EReal))
    (h4 : ∃ u : _ → ℝ, x4 = fun i => (u i : EReal)) (r : Fin 10000) (d : Fin 128) :
    ReferenceIdeal.Read.val_main_v32 (F := Ideal) x0 x1 x2 x3 x4 (ix2 r d)
      = kernelRow (fun i => x0 (ix2 r i)) (fun k i => x1 (ix3 r k i)) (fun i j => x2 (ix2 i j))
          (fun i j => x3 (ix2 i j)) (fun j => x4 (ix2 j 0)) d := by
  obtain ⟨u0, rfl⟩ := h0
  obtain ⟨u1, rfl⟩ := h1
  obtain ⟨u2, rfl⟩ := h2
  obtain ⟨u3, rfl⟩ := h3
  obtain ⟨u4, rfl⟩ := h4
  exact (ReferenceIdeal.Rows.out_apply _ _ _ _ _ r d).trans
    (kernelRow_eq (fun i => u0 (ix2 r i)) (fun k i => u1 (ix3 r k i)) (fun i j => u2 (ix2 i j))
      (fun i j => u3 (ix2 i j)) (fun j => u4 (ix2 j 0)) d).symm

end Cert.Agree

end
-- ==== Proof.lean ====
/-
  The claims about the kernel, its idealization and the reference, put together. The frames of the two kernel
  programs are the generated ones; the reference runs host operations only and has no semaphore. The value claim
  sets the kernel's run (`Proof/KernelArray.lean`) beside the reference's, whose two result arrays are equal where
  the precondition holds (`Proof/Agree.lean`).
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Agree
public import Idealize.ShloMosaic.Lib.Quiescent

@[expose] public section

set_option maxRecDepth 16384

noncomputable section

namespace Cert.Proof

open Idealize.ShloMosaic Idealize.SL.Sem

/-- The reference leaves its arguments unchanged, and every semaphore counter at zero: it has none. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Where every argument is a real number, the kernel's idealization and the reference leave the same result array. -/
theorem algebraic : Cert.algebraic_KernelIdeal_ReferenceIdeal_pre_finite (hPre_finite := Cert.Finite.facts) := by
  intro m g m' g' hpre hagree
  refine ⟨fun c => Cert.KernelIdeal.Result.result m c, Cert.KernelIdeal.Result.run m g, ?_⟩
  refine (θ_run Cert.ReferenceIdeal.defs _ _).mono (fun _ h c => ⟨(h c).1.trans ?_, (h c).2⟩)
    (Cert.ReferenceIdeal.Value.run (F := Ideal) m' g')
  show _ = Cert.KernelIdeal.Result.result m c
  rw [Cert.ReferenceIdeal.Read.val_main_v32_eq, (hagree c).1, (hagree c).2.1, (hagree c).2.2.1,
    (hagree c).2.2.2.1, (hagree c).2.2.2.2]
  funext i
  idx_vars i
  exact Cert.Agree.arrays_agree _ _ _ _ _ (Cert.Finite.real_of_array _ _ (hpre c).1)
    (Cert.Finite.real_of_array _ _ (hpre c).2.1) (Cert.Finite.real_of_array _ _ (hpre c).2.2.1)
    (Cert.Finite.real_of_array _ _ (hpre c).2.2.2.1) (Cert.Finite.real_of_array _ _ (hpre c).2.2.2.2) i0 i1

/-- Everything claimed. -/
theorem claim : Cert.Claim :=
  ⟨Cert.Kernel.Gen.facts, Cert.KernelIdeal.Gen.facts, Cert.ReferenceIdeal.Gen.facts, Cert.Finite.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    trivial, algebraic⟩

end Cert.Proof

end
